-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384 : Shape := ⟨1, ![16384]⟩
abbrev S_ : Shape := ⟨0, ![]⟩

abbrev nBuf : Table → Nat
  | .hbm => 2
  | _ => 0

abbrev bufTy : (tb : Table) → Fin (nBuf tb) → BufTy
  | .hbm, ⟨0, _⟩ => ⟨S16384, .f32⟩
  | .hbm, ⟨1, _⟩ => ⟨S16384, .f32⟩
  | _, _ => ⟨S16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384 : Shape := ⟨1, ![16384]⟩

abbrev nBuf : Space → Nat
  | .hbm => 1
  | .vmem => 0
  | .smem => 0
  | _ => 0

abbrev bufTy : (tb : Table) → Fin (tcTables nBuf tb) → BufTy
  | .hbm, ⟨0, _⟩ => ⟨S16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Body.lean ====
/-
  What the SparseCore kernel does, run once on its sequencer thread: it issues one copy of the whole argument array `a`
  (HBM) into the whole result array `out` (HBM) on its own DMA semaphore, and waits for that copy. Whatever float values
  `F` the arrays hold, `a` keeps its contents, `out` ends with `a`'s contents, and the semaphore's counter is back at zero.
-/
module

public import Idealize.ShloMosaic.Lib.SparseCore.Quiescent
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Copy

open Cert.KernelIdeal Cert.KernelIdeal.Gen

open Idealize.ShloMosaic
open Idealize.ShloMosaic.SparseCore (S T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its resources -/

/-- The labels below the SparseCore launch's own. -/
abbrev ΛP : Labels := Pipeline.Sig Λ₀ (Fin 0) fun p => (pcfgs (F := F) p).Adm

/-- The SparseCore calls of @main: one, on one sequencer. -/
abbrev K : SparseCore.Cfg τ sig (ΛP (F := F)) 1 := sc (F := F)

abbrev UH : Type := URounds (GSem nD τ sig) ℕ

/-- The ghost state: the launch handshakes' rounds beside the transfers' counters. -/
abbrev UU : Type := UH × Counters

local notation "𝕄" => MT nD τ sig (HIx 1) (Elt F) ℕ UU ℕ

abbrev 𝒱₀ : Variants := Variants.none

variable (m : (ℓ : Loc nD τ sig) → Buf (Elt F) ℓ)

-- the two arrays as the kernel is handed them
local notation "aW" => (Memref.whole Cert.KernelIdeal.main_arg0_scs : Memref Cert.KernelIdeal.sig Kind.scScalar Space.hbm Cert.KernelIdeal.S16384 EltTy.f32)
local notation "outW" => (Memref.whole Cert.KernelIdeal.main_v0_scs : Memref Cert.KernelIdeal.sig Kind.scScalar Space.hbm Cert.KernelIdeal.S16384 EltTy.f32)

abbrev aLoc (d : Dev nD) : Loc nD τ sig := (SparseCore.T d).loc main_arg0
abbrev outLoc (d : Dev nD) : Loc nD τ sig := (SparseCore.T d).loc main_v0

/-- The argument's contents at the launch, read as the result array's: the value the kernel is to leave there. -/
abbrev copied (d : Dev nD) : Buf (Elt F) (outLoc d) := m (aLoc d)

/-- `a` whole, at its launch contents. -/
abbrev aPts (d : Dev nD) : sProp 𝕄 := aLoc d ↦{fullShare} m (aLoc d)

/-- `out` whole, holding `f`. -/
abbrev outPts (d : Dev nD) (f : Buf (Elt F) (outLoc d)) : sProp 𝕄 := outLoc d ↦{fullShare} f

/-- What the sequencer is handed: `a`, and `out` with anything in it. -/
abbrev before (d : Dev nD) : sProp 𝕄 := iprop(aPts m d ∗ ∃ f, outPts d f)

/-- What it hands back: `a`, and `out` with `a`'s contents. -/
abbrev after (d : Dev nD) : sProp 𝕄 := iprop(aPts m d ∗ outPts d (copied m d))

variable (d : Dev nD)

/-- The kernel's grid point on SparseCore `c`. -/
def point (c : Fin (grid0.bound 0)) : grid0.Coords := fun | 0 => c | ⟨_ + 1, h⟩ => absurd h (Nat.not_lt.2 (Nat.le_add_left _ _))

/-- The sequencer thread that runs grid point `c`. -/
abbrev seqr (c : Fin (grid0.bound 0)) : Thread nD τ := S d (c.castLE hcore0)

/-- The copy's semaphore on that thread. -/
abbrev cell (c : Fin (grid0.bound 0)) : GSem nD τ sig := (seqr d c, .dma cc0_scoped0.sem)

/-- A sequencer's own semaphores are the copy's and the rest. -/
theorem ownSems_split (c : Fin (grid0.bound 0)) :
    (ownSems0 (seqr d c) : sProp 𝕄)
      = iprop(semVal (cell d c) 0 ∗ bigSep ((ownCells (seqr d c)).erase (cell d c)) fun g => semVal g 0) := by
  unfold SparseCore.Cfg.ownSems0
  refine SparseCore.bigSep_erase' ((mem_ownCells (g := cell d c)).mpr ⟨rfl, ?_⟩)
  show (SemLoc.dma cc0_scoped0.sem : SemLoc sig).isScoped .scScalar = true
  decide

/-- `a` as the sequencer's whole-array view addresses it is the device's array. -/
theorem aView (c : Fin (grid0.bound 0)) (f : Buf (Elt F) (aLoc d)) :
    ((aW).view.loc (seqr d c) ↦{fullShare} f : sProp 𝕄) = aLoc d ↦{fullShare} f := by
  simp only [Memref.view_whole, View.set_whole]

/-- And so is `out`. -/
theorem outView (c : Fin (grid0.bound 0)) (f : Buf (Elt F) (outLoc d)) :
    ((outW).view.loc (seqr d c) ↦{fullShare} f : sProp 𝕄) = outLoc d ↦{fullShare} f := by
  simp only [Memref.view_whole, View.set_whole]

/-! ## The body -/

/-- The kernel on its sequencer: handed `a` and `out`, it ends with `out` holding `a`'s contents, `a` unchanged, and every
    semaphore it was given back at zero. -/
theorem body [FloatOps F] (c : Fin (grid0.bound 0)) (O : CellTallies nD τ sig (HIx 1)) (W : Waits sig (HIx 1)) (hO : ∀ g, O g none = 0) :
    iprop(levAts (K (F := F)).L (K (F := F)).lev ∗ emp ∗ before m d
        ∗ scopedBufs (seqr d c) ∗ scopedSems0 (seqr d c) ∗ owes (seqr d c) O W)
      ⊢ wp frame (wpE (defs₀ (F := F)) 𝒱₀ (seqr d c) none) Set.univ
          (cc0__copy_kernel (point c) aW (Memref.isWhole_whole _) outW (Memref.isWhole_whole _) cc0_scoped0)
          fun _ => iprop(after m d ∗ scopedBufs (seqr d c) ∗ scopedSems0 (seqr d c)
            ∗ ∃ W', ⌜∀ p ∈ W', p ∈ W ∨ p.2 = none ∨ p.2 = some (0 : Fin 1)⌝ ∗ owes (seqr d c) O W') := by
  simp only [cc0__copy_kernel_eq_skeleton]; unfold cc0__copy_kernel_skel
  iintro ⟨#Hlv, -, ⟨Ha, %f, Hout⟩, Hbufs, Hsems, HO⟩
  ihave Hmw := ((K (F := F)).mayWaits_none (thr := seqr d c) hO) $$ Hlv
  ihave Hs := (SparseCore.Cfg.scopedSems0_S_elim (Val := Elt F) d (c.castLE hcore0)) $$ Hsems
  icases Hs with ⟨Hown, Hshared⟩
  ihave Ho := (Entails.of_eq (ownSems_split (F := F) d c)) $$ Hown
  icases Ho with ⟨Hsem, Hrest⟩
  ihave Ha' := (Entails.of_eq (aView (F := F) d c _).symm) $$ Ha
  ihave Hout' := (Entails.of_eq (outView (F := F) d c _).symm) $$ Hout
  sl_exec
  sl_step
  -- a write of the whole of `out` leaves what was written: the words read of the whole of `a`
  have hw : (outW).view.write (Elt F) f (body.sl.dma0 m d) Finset.univ = copied m d := View.write_whole_univ _ _ _
  rw [hw]
  isplitl [Ha' Hout']
  · isplitl [Ha']
    · iapply (Entails.of_eq (aView (F := F) d c _)); iexact Ha'
    · iapply (Entails.of_eq (outView (F := F) d c _)); iexact Hout'
  isplitl [Hbufs]; · iexact Hbufs
  isplitl [Hsem Hrest Hshared]
  · iapply (SparseCore.Cfg.scopedSems0_S_intro (Val := Elt F) d _)
    isplitr [Hshared]
    · rw [ownSems_split]
      isplitl [Hsem]; · iexact Hsem
      iexact Hrest
    · iexact Hshared
  -- the one wait it recorded is its own, at no call's index
  iexists (insert (SemLoc.dma cc0_scoped0.sem, (default : HIx 1)) W)
  isplitr
  · ipureintro
    intro p hp
    rcases Finset.mem_insert.mp hp with h | h
    · exact .inr (.inl (congrArg Prod.snd h))
    · exact .inl h
  · iexact HO

end Cert.Proof.Copy

end
-- ==== Proof.Launch.lean ====
/-
  The kernel's whole program: @main on the TensorCore starts the one SparseCore call, the sequencer runs `body`, and @main
  ends. Every weakly fair execution ends without fault, `out` holds `a`'s launch contents, `a` is unchanged and every
  semaphore counter reads zero — for any float values `F`, so for the machine's words and for the extended reals alike.
-/
module

public import proofs.«01_k».proof.Proof.Body

@[expose] public section

noncomputable section

namespace Cert.Proof.Copy

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none

/-- The handshakes' rounds, as the left factor of the ghost state. -/
abbrev EH : Emb UH (MT nD τ sig (HIx 1) (Elt F) ℕ UU ℕ) := embL

variable (m : (ℓ : Loc nD τ sig) → Buf (Elt F) ℓ) (ρ : Dev nD → PrngReg)

/-! ## What the call carries -/

/-- The call hands the sequencer the two arrays, and takes them back with the copy done. -/
def P : (K (F := F)).Pay (nD := nD) (Val := Elt F) (Name := ℕ) (U := UU) where
  st := fun _ d _ => before m d
  dn := fun _ d _ => after m d
  go := fun _ _ _ _ => iprop(emp)
  td := fun _ _ _ _ => iprop(emp)
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

omit [FloatOps F] in
/-- The launch's semaphores are told apart and no kernel's. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The sequencer's obligation in the call is `body`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  simp only [defs₀, SparseCore.onCore, hc, ↓reduceDIte]
  exact body m d c O W hO

/-! ## The launch element -/

/-- The ghost state at the launch: the handshakes' rounds, no transfer yet. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  have hg : (bigSep Finset.univ fun _ : Dev nD => iprop(emp)) = (iprop(emp) : sProp 𝕄) := bigSep_emp_const _
  rw [hx, hg]
  unfold u₀
  iintro Hu
  ihave H := (ownU_pair _ _) $$ Hu
  icases H with ⟨HH, -⟩
  imodintro
  isplitl [HH]; · iexact HH
  isplitl []
  · iempintro
  · iempintro

/-! ## @main -/

omit [FloatOps F] in
/-- The device's arrays at the launch: `a` and `out`. -/
theorem arrays (d : Dev nD) (W : (b : Ref sig .tc) → Buf (Elt F) ((d.tc : Thread nD τ).loc b)) :
    (unscopedBufs d W : sProp 𝕄) = iprop((aLoc d ↦{fullShare} W main_arg0) ∗ outLoc d ↦{fullShare} W main_v0) := by
  unfold unscopedBufs
  rw [show (Finset.univ.filter fun b : Ref sig .tc => ¬ b.isScoped) = {main_arg0, main_v0} by decide,
    SparseCore.bigSep_insert' (by decide), bigSep_singleton]

/-- One sequencer runs the call, so what the call takes in all is what that sequencer takes, -/
theorem taken (d : Dev nD) : (bigSep Finset.univ fun c : Fin ((K (F := F)).nCore 0) => (P m).st 0 d c) = before m d :=
  bigSep_singleton (i := (0 : Fin 1)) (Φ := fun _ => before m d)

/-- and what it gives back is what that sequencer does. -/
theorem given (d : Dev nD) : (bigSep Finset.univ fun c : Fin ((K (F := F)).nCore 0) => (P m).dn 0 d c) = after m d :=
  bigSep_singleton (i := (0 : Fin 1)) (Φ := fun _ => after m d)

/-- @main: from the two arrays at their launch contents to the copy done. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ after m d ∗ (K (F := F)).tcEnd d) := by
  unfold SparseCore.Cfg.tcRes SparseCore.Cfg.tcEnd
  rw [arrays]
  simp only [main, wp_bind, wp_pure]
  iintro ⟨#Hctx, Hst, ⟨Hb, ⟨Ha, Hout⟩, Hts, -⟩, -⟩
  iapply ((K (F := F)).wp_run (D (F := F)) 𝒱 (EH := EH) (P := P m) κ d 0) $$ [Hst Ha Hout Hb Hts]
  isplitr; · iexact Hctx
  isplitl [Hst]; · iexact Hst
  isplitl [Ha Hout]
  · rw [taken]
    isplitl [Ha]; · iexact Ha
    iexists _; iexact Hout
  iintro ⟨Hst, Hdn⟩
  ihave Hdone := (Entails.of_eq (given m d)) $$ Hdn
  imodintro
  isplitl [Hst]; · iexact Hst
  isplitl [Hdone]; · iexact Hdone
  isplitl [Hb] <;> iassumption

/-! ## The run -/

/-- What a final memory shows on device `d`: `out` and `a` both at `a`'s launch contents. -/
def Done (d : Dev nD) (s' : Phys nD τ sig (Elt F)) : Prop :=
  s'.mem.mem (outLoc d) = copied m d ∧ s'.mem.mem (aLoc d) = m (aLoc d)

omit [FloatOps F] in
/-- An array held whole at `f` is at `f` in the memory. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨H, HSI⟩
  ihave Hag := (SI_pointsTo_agree (st := s') (ℓ := ℓ) (I := Finset.univ) (q := fullShare) (f := f)) $$ [HSI H]
  · isplitl [HSI] <;> iassumption
  icases Hag with %h
  ipureintro; exact funext fun i => h i (Finset.mem_univ i)

omit [FloatOps F] in
theorem hfin (d : Dev nD) (s' : Phys nD τ sig (Elt F)) : iprop(after m d ∗ SI s') ⊢ (⌜Done m d s'⌝ : sProp 𝕄) := fun x hx =>
  ⟨((sep_mono_left sep_elim_right).trans (read_whole _ _ s')) x hx, ((sep_mono_left sep_elim_left).trans (read_whole _ _ s')) x hx⟩

/-- The program's run: the result array ends with the argument's launch contents, the argument is unchanged, and every
    semaphore counter is at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem (outLoc d) = copied m d ∧ r.2.mem (aLoc d) = m (aLoc d)) ∧ r.2.sem = fun _ => 0) :=
  SparseCore.Cfg.θ_run_sc_quiescent (K := K (F := F)) (D := D (F := F)) (𝒱 := 𝒱) (EH := EH) (P := P m) (A := ∅) launchFacts v₀
    (fun q _ => match q with | 0 => scalarObl m)
    (fun q hq => match q with | 0 => nomatch hq)
    (fun q hq => match q with | 0 => nomatch hq)
    m ρ main (fun _ => iprop(emp)) (after m) (u₀ (F := F)) (sep_elim_left.trans (hu₀ m)) (hmain m ρ) (Done m) (hfin m) _
    (fun _ h hz => ⟨h, hz⟩)

end Cert.Proof.Copy

end
-- ==== Proof.Identity.lean ====
/-
  The reference returns its argument: its @main has no operation, so every run of it leaves the memory as it was.
-/
module

public import Idealize.ShloMosaic.Lib.StableHlo.RunHlo
public import Idealize.ShloMosaic.Lib.Quiescent
public import proofs.«01_k».proof.Proof.Gen.ReferenceIdeal

@[expose] public section

noncomputable section

namespace Cert.Proof.Identity

open Cert.ReferenceIdeal Cert.ReferenceIdeal.Gen
open Idealize.ShloMosaic Idealize.SL.Sem

variable {F : FTy → Type} [FloatOps F]

/-- The reference's run, over any float values: its argument, which is its result too, ends as it began, and every
    semaphore counter is at zero. -/
theorem run_main [∀ e, Nonempty (Elt F e)] (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => (∀ d : Dev nD, r.2.mem ((d.tc : Thread nD τ).loc main_arg0) = m ((d.tc : Thread nD τ).loc main_arg0))
        ∧ r.2.sem = fun _ => 0) :=
  θ_run_mono
    (StableHlo.run_seq (by decide) (by decide) (Cert.ReferenceIdeal.defs (F := F)) (Cert.ReferenceIdeal.main (F := F)) (fun _ => [])
      (fun _ => rfl) (fun _ => trivial) m ρ)
    (fun r h => ⟨fun d => h d main_arg0, sem_eq_zero_of_no_sems rfl r.2⟩)

end Cert.Proof.Identity

end
-- ==== Proof.lean ====
/-
  `Cert.Claim`: the SparseCore copy terminates without fault, leaves its argument and every counter as they were, and
  computes the reference's function, both over the extended reals (algebraic) and word for word (bitexact). The kernel's
  run and the reference's are each stated once, over any float values (Proof/Launch.lean, Proof/Identity.lean); every
  claim is read off one of the two.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Launch
public import proofs.«01_k».proof.Proof.Identity

@[expose] public section

noncomputable section

namespace Cert.Proof

open Idealize.ShloMosaic Idealize.SL.Sem

/-- The kernel's frame, at the machine's words. -/
theorem frame_kernel : Cert.quiescent_Kernel (hKernel := Cert.Kernel.Gen.facts) := fun m ρ _ =>
  (θ_run Cert.KernelIdeal.defs _ _).mono (fun _ h => ⟨fun c => (h.1 c).2, h.2⟩) (Copy.run_main (F := Bits) m ρ)

/-- The ideal kernel's frame. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Copy.run_main (F := Ideal) m ρ)

/-- The ideal reference's frame. -/
theorem frame_reference_ideal : Cert.quiescent_ReferenceIdeal (hReferenceIdeal := Cert.ReferenceIdeal.Gen.facts) := fun m ρ _ =>
  Identity.run_main (F := Ideal) m ρ

/-- The reference's frame, at the machine's words. -/
theorem frame_reference : Cert.quiescent_Reference (hReference := Cert.Reference.Gen.facts) := fun m ρ _ =>
  Identity.run_main (F := Bits) m ρ

/-- Over the extended reals the kernel's result is the reference's: the argument. -/
theorem algebraic : Cert.algebraic_KernelIdeal_ReferenceIdeal (hKernelIdeal := Cert.KernelIdeal.Gen.facts)
    (hReferenceIdeal := Cert.ReferenceIdeal.Gen.facts) := fun m ρ m' ρ' _ hagree =>
  ⟨Copy.copied m, (θ_run Cert.KernelIdeal.defs _ _).mono (fun _ h => h.1) (Copy.run_main (F := Ideal) m ρ),
    (θ_run Cert.ReferenceIdeal.defs _ _).mono (fun _ h c => ⟨(h.1 c).trans (hagree c), h.1 c⟩) (Identity.run_main (F := Ideal) m' ρ')⟩

/-- Word for word the kernel's result is the reference's: the argument. -/
theorem bitexact : Cert.bitexact_Kernel_Reference (hKernel := Cert.Kernel.Gen.facts) (hReference := Cert.Reference.Gen.facts) :=
  fun m ρ m' ρ' _ hagree =>
  ⟨Copy.copied (F := Bits) m, (θ_run Cert.KernelIdeal.defs _ _).mono (fun _ h => h.1) (Copy.run_main (F := Bits) m ρ),
    (θ_run Cert.ReferenceIdeal.defs _ _).mono (fun _ h c => ⟨(h.1 c).trans (hagree c), h.1 c⟩) (Identity.run_main (F := Bits) m' ρ')⟩

theorem claim : Cert.Claim :=
  ⟨Cert.Kernel.Gen.facts, Cert.KernelIdeal.Gen.facts, Cert.ReferenceIdeal.Gen.facts, Cert.Reference.Gen.facts,
    frame_kernel, frame_ideal, frame_reference_ideal, frame_reference, trivial, algebraic, bitexact⟩

end Cert.Proof

end
